-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x3x512x512 : Shape := ⟨4, ![32, 3, 512, 512]⟩
abbrev S96x512x512 : Shape := ⟨3, ![96, 512, 512]⟩
abbrev S512x512x32 : Shape := ⟨3, ![512, 512, 32]⟩
abbrev S_ : Shape := ⟨0, ![]⟩
abbrev S512x512 : Shape := ⟨2, ![512, 512]⟩
abbrev S128x256 : Shape := ⟨2, ![128, 256]⟩
abbrev S1x128x256 : Shape := ⟨3, ![1, 128, 256]⟩
abbrev S4x128x256 : Shape := ⟨3, ![4, 128, 256]⟩
abbrev S12x512x512 : Shape := ⟨3, ![12, 512, 512]⟩
abbrev S1x512x512 : Shape := ⟨3, ![1, 512, 512]⟩
abbrev S2048x512 : Shape := ⟨2, ![2048, 512]⟩
abbrev S256x512 : Shape := ⟨2, ![256, 512]⟩
abbrev S256x2048 : Shape := ⟨2, ![256, 2048]⟩
abbrev S128x2048 : Shape := ⟨2, ![128, 2048]⟩
abbrev S128x512 : Shape := ⟨2, ![128, 512]⟩
abbrev S1x128x512 : Shape := ⟨3, ![1, 128, 512]⟩

abbrev nBuf : Space → Nat
  | .hbm => 52
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S96x512x512, .f32⟩
  | .hbm, ⟨2, _⟩ => ⟨S512x512x32, .i32⟩
  | .hbm, ⟨3, _⟩ => ⟨S512x512x32, .i32⟩
  | .hbm, ⟨4, _⟩ => ⟨S512x512x32, .i32⟩
  | .hbm, ⟨5, _⟩ => ⟨S512x512x32, .i32⟩
  | .hbm, ⟨6, _⟩ => ⟨S_, .i32⟩
  | .hbm, ⟨7, _⟩ => ⟨S512x512x32, .i32⟩
  | .hbm, ⟨8, _⟩ => ⟨S512x512x32, .i32⟩
  | .hbm, ⟨9, _⟩ => ⟨S_, .i32⟩
  | .hbm, ⟨10, _⟩ => ⟨S512x512x32, .i32⟩
  | .hbm, ⟨11, _⟩ => ⟨S512x512x32, .i1⟩
  | .hbm, ⟨12, _⟩ => ⟨S512x512x32, .i32⟩
  | .hbm, ⟨13, _⟩ => ⟨S_, .i32⟩
  | .hbm, ⟨14, _⟩ => ⟨S512x512x32, .i32⟩
  | .hbm, ⟨15, _⟩ => ⟨S512x512x32, .i1⟩
  | .hbm, ⟨16, _⟩ => ⟨S_, .i32⟩
  | .hbm, ⟨17, _⟩ => ⟨S512x512x32, .i32⟩
  | .hbm, ⟨18, _⟩ => ⟨S512x512x32, .i32⟩
  | .hbm, ⟨19, _⟩ => ⟨S512x512x32, .i32⟩
  | .hbm, ⟨20, _⟩ => ⟨S512x512x32, .i32⟩
  | .hbm, ⟨21, _⟩ => ⟨S512x512x32, .i1⟩
  | .hbm, ⟨22, _⟩ => ⟨S_, .f32⟩
  | .hbm, ⟨23, _⟩ => ⟨S_, .f32⟩
  | .hbm, ⟨24, _⟩ => ⟨S512x512x32, .f32⟩
  | .hbm, ⟨25, _⟩ => ⟨S512x512x32, .f32⟩
  | .hbm, ⟨26, _⟩ => ⟨S512x512x32, .f32⟩
  | .hbm, ⟨27, _⟩ => ⟨S512x512x32, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S128x256, .f32⟩
  | .hbm, ⟨32, _⟩ => ⟨S512x512, .f32⟩
  | .hbm, ⟨33, _⟩ => ⟨S128x256, .f32⟩
  | .hbm, ⟨34, _⟩ => ⟨S512x512, .f32⟩
  | .hbm, ⟨35, _⟩ => ⟨S128x256, .f32⟩
  | .hbm, ⟨36, _⟩ => ⟨S512x512, .f32⟩
  | .hbm, ⟨37, _⟩ => ⟨S128x256, .f32⟩
  | .hbm, ⟨38, _⟩ => ⟨S1x128x256, .f32⟩
  | .hbm, ⟨39, _⟩ => ⟨S1x128x256, .f32⟩
  | .hbm, ⟨40, _⟩ => ⟨S1x128x256, .f32⟩
  | .hbm, ⟨41, _⟩ => ⟨S1x128x256, .f32⟩
  | .hbm, ⟨42, _⟩ => ⟨S4x128x256, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .fp8e4m3⟩
  | .hbm, ⟨47, _⟩ => ⟨S_, .f32⟩
  | .hbm, ⟨48, _⟩ => ⟨S4x128x256, .f32⟩
  | .hbm, ⟨49, _⟩ => ⟨S4x128x256, .f32⟩
  | .hbm, ⟨50, _⟩ => ⟨S4x128x256, .fp8e4m3⟩
  | .hbm, ⟨51, _⟩ => ⟨S96x512x512, .f32⟩
  | .local _ .vmem, ⟨0, _⟩ => ⟨S12x512x512, .f32⟩
  | .local _ .vmem, ⟨1, _⟩ => ⟨S12x512x512, .f32⟩
  | .local _ .vmem, ⟨2, _⟩ => ⟨S512x512, .fp8e4m3⟩
  | .local _ .vmem, ⟨3, _⟩ => ⟨S4x128x256, .fp8e4m3⟩
  | .local _ .vmem, ⟨4, _⟩ => ⟨S12x512x512, .f32⟩
  | .local _ .vmem, ⟨5, _⟩ => ⟨S12x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_1 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_cst_3 : Ref sig .tc := ⟨.hbm, 23, rfl⟩
abbrev main_call2_v0 : Ref sig .tc := ⟨.hbm, 24, rfl⟩
abbrev main_call2_v1 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x3x512x512 : Shape := ⟨4, ![32, 3, 512, 512]⟩
abbrev S_ : Shape := ⟨0, ![]⟩
abbrev S32x3x1x512 : Shape := ⟨4, ![32, 3, 1, 512]⟩
abbrev S32x3x16x512 : Shape := ⟨4, ![32, 3, 16, 512]⟩
abbrev S32x3x528x512 : Shape := ⟨4, ![32, 3, 528, 512]⟩
abbrev S32x3x544x512 : Shape := ⟨4, ![32, 3, 544, 512]⟩
abbrev S32x3x544x1 : Shape := ⟨4, ![32, 3, 544, 1]⟩
abbrev S32x3x544x16 : Shape := ⟨4, ![32, 3, 544, 16]⟩
abbrev S32x3x544x528 : Shape := ⟨4, ![32, 3, 544, 528]⟩
abbrev S32x3x544x544 : Shape := ⟨4, ![32, 3, 544, 544]⟩
abbrev S32x3x513x513 : Shape := ⟨4, ![32, 3, 513, 513]⟩
abbrev S96x512x512 : Shape := ⟨3, ![96, 512, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S_, .i32⟩
  | .hbm, ⟨2, _⟩ => ⟨S32x3x1x512, .f32⟩
  | .hbm, ⟨3, _⟩ => ⟨S32x3x16x512, .f32⟩
  | .hbm, ⟨4, _⟩ => ⟨S32x3x16x512, .f32⟩
  | .hbm, ⟨5, _⟩ => ⟨S32x3x528x512, .f32⟩
  | .hbm, ⟨6, _⟩ => ⟨S32x3x1x512, .f32⟩
  | .hbm, ⟨7, _⟩ => ⟨S32x3x16x512, .f32⟩
  | .hbm, ⟨8, _⟩ => ⟨S32x3x16x512, .f32⟩
  | .hbm, ⟨9, _⟩ => ⟨S32x3x544x512, .f32⟩
  | .hbm, ⟨10, _⟩ => ⟨S32x3x544x1, .f32⟩
  | .hbm, ⟨11, _⟩ => ⟨S32x3x544x16, .f32⟩
  | .hbm, ⟨12, _⟩ => ⟨S32x3x544x16, .f32⟩
  | .hbm, ⟨13, _⟩ => ⟨S32x3x544x528, .f32⟩
  | .hbm, ⟨14, _⟩ => ⟨S32x3x544x1, .f32⟩
  | .hbm, ⟨15, _⟩ => ⟨S32x3x544x16, .f32⟩
  | .hbm, ⟨16, _⟩ => ⟨S32x3x544x16, .f32⟩
  | .hbm, ⟨17, _⟩ => ⟨S32x3x544x544, .f32⟩
  | .hbm, ⟨18, _⟩ => ⟨S_, .f32⟩
  | .hbm, ⟨19, _⟩ => ⟨S_, .f32⟩
  | .hbm, ⟨20, _⟩ => ⟨S32x3x513x513, .f32⟩
  | .hbm, ⟨21, _⟩ => ⟨S_, .f32⟩
  | .hbm, ⟨22, _⟩ => ⟨S32x3x513x513, .f32⟩
  | .hbm, ⟨23, _⟩ => ⟨S32x3x513x513, .f32⟩
  | .hbm, ⟨24, _⟩ => ⟨S32x3x512x512, .f32⟩
  | .hbm, ⟨25, _⟩ => ⟨S32x3x512x512, .f32⟩
  | .hbm, ⟨26, _⟩ => ⟨S_, .i32⟩
  | .hbm, ⟨27, _⟩ => ⟨S32x3x1x512, .f32⟩
  | .hbm, ⟨28, _⟩ => ⟨S32x3x16x512, .f32⟩
  | .hbm, ⟨29, _⟩ => ⟨S32x3x16x512, .f32⟩
  | .hbm, ⟨30, _⟩ => ⟨S32x3x528x512, .f32⟩
  | .hbm, ⟨31, _⟩ => ⟨S32x3x1x512, .f32⟩
  | .hbm, ⟨32, _⟩ => ⟨S32x3x16x512, .f32⟩
  | .hbm, ⟨33, _⟩ => ⟨S32x3x16x512, .f32⟩
  | .hbm, ⟨34, _⟩ => ⟨S32x3x544x512, .f32⟩
  | .hbm, ⟨35, _⟩ => ⟨S32x3x544x1, .f32⟩
  | .hbm, ⟨36, _⟩ => ⟨S32x3x544x16, .f32⟩
  | .hbm, ⟨37, _⟩ => ⟨S32x3x544x16, .f32⟩
  | .hbm, ⟨38, _⟩ => ⟨S32x3x544x528, .f32⟩
  | .hbm, ⟨39, _⟩ => ⟨S32x3x544x1, .f32⟩
  | .hbm, ⟨40, _⟩ => ⟨S32x3x544x16, .f32⟩
  | .hbm, ⟨41, _⟩ => ⟨S32x3x544x16, .f32⟩
  | .hbm, ⟨42, _⟩ => ⟨S32x3x544x544, .f32⟩
  | .hbm, ⟨43, _⟩ => ⟨S_, .f32⟩
  | .hbm, ⟨44, _⟩ => ⟨S_, .f32⟩
  | .hbm, ⟨45, _⟩ => ⟨S32x3x513x513, .f32⟩
  | .hbm, ⟨46, _⟩ => ⟨S_, .f32⟩
  | .hbm, ⟨47, _⟩ => ⟨S32x3x513x513, .f32⟩
  | .hbm, ⟨48, _⟩ => ⟨S32x3x513x513, .f32⟩
  | .hbm, ⟨49, _⟩ => ⟨S32x3x512x512, .f32⟩
  | .hbm, ⟨50, _⟩ => ⟨S32x3x512x512, .f32⟩
  | .hbm, ⟨51, _⟩ => ⟨S32x3x512x512, .f32⟩
  | .hbm, ⟨52, _⟩ => ⟨S32x3x512x512, .f32⟩
  | .hbm, ⟨53, _⟩ => ⟨S_, .f32⟩
  | .hbm, ⟨54, _⟩ => ⟨S32x3x512x512, .f32⟩
  | .hbm, ⟨55, _⟩ => ⟨S32x3x512x512, .f32⟩
  | .hbm, ⟨56, _⟩ => ⟨S32x3x512x512, .f32⟩
  | .hbm, ⟨57, _⟩ => ⟨S32x3x512x512, .f32⟩
  | .hbm, ⟨58, _⟩ => ⟨S32x3x512x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S32x3x512x512, .f32⟩
  | .hbm, ⟨63, _⟩ => ⟨S32x3x512x512, .f32⟩
  | .hbm, ⟨64, _⟩ => ⟨S_, .f32⟩
  | .hbm, ⟨65, _⟩ => ⟨S32x3x512x512, .f32⟩
  | .hbm, ⟨66, _⟩ => ⟨S32x3x512x512, .f32⟩
  | .hbm, ⟨67, _⟩ => ⟨S96x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_cst_3 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_5 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v21 : Ref sig .tc := ⟨.hbm, 66, rfl⟩
abbrev main_v22 : Ref sig .tc := ⟨.hbm, 67, rfl⟩

abbrev nD : Nat := 1
abbrev τ : Topo := Topo.v7x

variable {F : FTy → Type} [FloatOps F]
-- ==== Proof.Window.lean ====
module

public import Mathlib.Data.EReal.Inv
public import Mathlib.Algebra.BigOperators.Fin
public import Mathlib.Algebra.BigOperators.Group.Finset.Piecewise
public import Mathlib.Algebra.Order.BigOperators.Group.Finset
public import Mathlib.Tactic.FinCases
public import Mathlib.Tactic.NormNum
public import Mathlib.Tactic.Ring

/-!
# Windows over a reflected row, and the weights that count them

A row of 512 values, extended by reflection with 16 more on each side, has 544. The box mean looks at the 32
consecutive values `j, …, j + 31` of the extended row. The same sum is a weighted sum over the 512 values
themselves, the weight of value `m` being how many of the 32 positions show it.
-/

@[expose] public section

namespace Cert.Box

open Finset

/-- Which of the 512 values position `p` of the extended row shows. -/
def refl (p : ℕ) : ℕ := if p < 16 then 16 - p else if p < 528 then p - 16 else 1038 - p

theorem refl_lt {p : ℕ} (h : p < 544) : refl p < 512 := by
  unfold refl; split_ifs <;> omega

/-- The value shown at place `q` of window `j`. -/
def at_ (j : Fin 512) (q : Fin 32) : Fin 512 := ⟨refl (j.val + q.val), refl_lt (by omega)⟩

/-- How many places of window `j` show value `m`: once straight, and once more by reflection near either end. -/
def count (m j : ℕ) : ℕ :=
  (if j ≤ m + 16 ∧ m < j + 16 then 1 else 0) + (if 1 ≤ m ∧ j + m ≤ 16 then 1 else 0)
    + (if m ≤ 510 ∧ 1007 ≤ j + m then 1 else 0)

/-- Summing a constant over the places `q` of a window with `j + q = p` gives it once, or not at all. -/
theorem sum_place (j p : ℕ) : (∑ q : Fin 32, if j + q.val = p then 1 else 0) = if j ≤ p ∧ p < j + 32 then 1 else 0 := by
  split_ifs with h
  · rw [sum_eq_single (⟨p - j, by omega⟩ : Fin 32)]
    · exact if_pos (by show j + (p - j) = p; omega)
    · intro q _ hq
      exact if_neg fun e => hq (Fin.ext (by show q.val = p - j; omega))
    · exact fun h => absurd (mem_univ _) h
  · exact sum_eq_zero fun q _ => if_neg (by have := q.isLt; omega)

/-- `count` counts the places of window `j` that show value `m`. -/
theorem count_eq (m j : Fin 512) : count m.val j.val = ∑ q : Fin 32, if at_ j q = m then 1 else 0 := by
  have hm := m.isLt
  have hj := j.isLt
  have key : ∀ q : Fin 32, (if at_ j q = m then 1 else 0 : ℕ)
      = (if j.val + q.val = m.val + 16 then 1 else 0)
        + (if (1 ≤ m.val ∧ m.val ≤ 16) ∧ j.val + q.val = 16 - m.val then 1 else 0)
        + (if m.val ≤ 510 ∧ j.val + q.val = 1038 - m.val then 1 else 0) := by
    intro q
    have hq := q.isLt
    have : at_ j q = m ↔ refl (j.val + q.val) = m.val := Fin.ext_iff
    simp only [this, refl]
    split_ifs <;> omega
  rw [sum_congr rfl fun q _ => key q, sum_add_distrib, sum_add_distrib, sum_place]
  have pull : ∀ (P : Prop) [Decidable P] (p : ℕ), (∑ q : Fin 32, if P ∧ j.val + q.val = p then 1 else 0)
      = if P ∧ (j.val ≤ p ∧ p < j.val + 32) then 1 else 0 := by
    intro P _ p
    by_cases hP : P
    · simp only [hP, true_and, sum_place]
    · simp only [hP, false_and, if_false, sum_const_zero]
  rw [pull, pull]
  unfold count
  congr 1
  · congr 1
    · exact if_congr (by omega) rfl rfl
    · exact if_congr (by omega) rfl rfl
  · exact if_congr (by omega) rfl rfl

/-- The rows of block `b` of 128 output rows only look at the 256 values from this one on. -/
def start : Fin 4 → ℕ
  | 0 => 0 | 1 => 64 | 2 => 192 | 3 => 256

theorem start_le (b : Fin 4) : start b ≤ 256 := by
  fin_cases b <;> simp [start]

/-- Row `r` of block `b`, among all 512. -/
def row (b : Fin 4) (r : Fin 128) : Fin 512 := ⟨128 * b.val + r.val, by omega⟩

/-- Value `t` of the 256 that block `b` looks at, among all 512. -/
def slab (b : Fin 4) (t : Fin 256) : Fin 512 := ⟨start b + t.val, by have := start_le b; omega⟩

/-- Every value a window of block `b` shows is one of the block's 256. -/
theorem at_in_slab (b : Fin 4) (r : Fin 128) (q : Fin 32) :
    start b ≤ (at_ (row b r) q).val ∧ (at_ (row b r) q).val < start b + 256 := by
  have hr := r.isLt
  have hq := q.isLt
  have hb := b.isLt
  have hs : ∀ p : ℕ, p = 128 * b.val + r.val + q.val → start b ≤ refl p ∧ refl p < start b + 256 := by
    intro p hp
    have h3 : refl p + 16 = p ∧ p < 528 ∨ p < 16 ∧ refl p + p = 16 ∨ 528 ≤ p ∧ refl p + p = 1038 := by
      unfold refl
      split_ifs <;> omega
    fin_cases b <;> simp only [start] at * <;> omega
  exact hs _ rfl

/-- Its position among the block's 256. -/
def inSlab (b : Fin 4) (r : Fin 128) (q : Fin 32) : Fin 256 :=
  ⟨(at_ (row b r) q).val - start b, by have := at_in_slab b r q; omega⟩

theorem slab_inSlab (b : Fin 4) (r : Fin 128) (q : Fin 32) : slab b (inSlab b r q) = at_ (row b r) q := by
  have := at_in_slab b r q
  apply Fin.ext
  show start b + ((at_ (row b r) q).val - start b) = (at_ (row b r) q).val
  omega

theorem slab_inj (b : Fin 4) {t u : Fin 256} : slab b t = slab b u ↔ t = u := by
  constructor
  · intro h
    have : start b + t.val = start b + u.val := congrArg Fin.val h
    exact Fin.ext (by omega)
  · rintro rfl; rfl

/-! ## Weighted sums -/

/-- One place's share of the mean along one axis. -/
noncomputable def share : EReal := ((1 / 32 : ℝ) : EReal)

theorem share_nonneg : 0 ≤ share := by
  unfold share; exact_mod_cast (by norm_num : (0 : ℝ) ≤ 1 / 32)

theorem share_ne_top : share ≠ ⊤ := EReal.coe_ne_top _

/-- `k` shares. -/
noncomputable def shares (k : ℕ) : EReal := ((k / 32 : ℝ) : EReal)

/-- A number of shares, added up one at a time. -/
theorem shares_sum {ι : Type} (s : Finset ι) (P : ι → Prop) [DecidablePred P] :
    shares (∑ q ∈ s, if P q then 1 else 0) = ∑ q ∈ s, if P q then share else 0 := by
  classical
  induction s using Finset.induction_on with
  | empty => simp [shares]
  | insert a s ha ih =>
    rw [sum_insert ha, sum_insert ha, ← ih]
    split_ifs
    · unfold shares share
      rw [← EReal.coe_add]
      congr 1
      push_cast
      ring
    · simp

/-- A factor passes into a sum of nonnegative weights. -/
theorem mul_sum_weights {ι : Type} (s : Finset ι) (x : EReal) (w : ι → EReal) (h : ∀ q, 0 ≤ w q) :
    x * ∑ q ∈ s, w q = ∑ q ∈ s, x * w q := by
  classical
  induction s using Finset.induction_on with
  | empty => simp
  | insert a s ha ih =>
    rw [sum_insert ha, sum_insert ha, EReal.left_distrib_of_nonneg (h a) (sum_nonneg fun q _ => h q), ih]

/-- A share passes out of a sum of any extended reals. -/
theorem sum_mul_share {ι : Type} (s : Finset ι) (f : ι → EReal) :
    ∑ q ∈ s, f q * share = (∑ q ∈ s, f q) * share := by
  classical
  induction s using Finset.induction_on with
  | empty => simp
  | insert a s ha ih =>
    rw [sum_insert ha, sum_insert ha, ih, EReal.right_distrib_of_nonneg_of_ne_top share_nonneg share_ne_top]

/-- THE WEIGHTED SUM IS THE WINDOW'S: if value `m`'s weight is a share for every place that shows it, the weighted
    sum of the values is the sum over the places, times a share. -/
theorem weighted_sum {n : ℕ} (f : Fin n → EReal) (ρ : Fin 32 → Fin n) :
    ∑ m, f m * shares (∑ q, if ρ q = m then 1 else 0) = (∑ q, f (ρ q)) * share := by
  have step : ∀ m, f m * shares (∑ q, if ρ q = m then 1 else 0) = ∑ q, f m * (if ρ q = m then share else 0) := by
    intro m
    rw [shares_sum, mul_sum_weights]
    intro q
    split_ifs
    · exact share_nonneg
    · exact le_refl _
  rw [sum_congr rfl fun m _ => step m, sum_comm, ← sum_mul_share]
  refine sum_congr rfl fun q _ => ?_
  rw [sum_eq_single (ρ q)]
  · rw [if_pos rfl]
  · intro m _ hm
    rw [if_neg (Ne.symm hm), mul_zero]
  · exact fun h => absurd (mem_univ _) h

/-- Along a row: the weights of `count`. -/
theorem row_sum (f : Fin 512 → EReal) (j : Fin 512) :
    ∑ m, f m * shares (count m.val j.val) = (∑ q, f (at_ j q)) * share := by
  rw [← weighted_sum]
  exact sum_congr rfl fun m _ => by rw [count_eq]

/-- Across the rows: the weights of `count` on the 256 rows a block looks at are all the weight there is. -/
theorem col_sum (f : Fin 512 → EReal) (b : Fin 4) (r : Fin 128) :
    ∑ t, shares (count (slab b t).val (row b r).val) * f (slab b t) = (∑ q, f (at_ (row b r) q)) * share := by
  have h := weighted_sum (fun t => f (slab b t)) (inSlab b r)
  simp only [slab_inSlab] at h
  rw [← h]
  refine sum_congr rfl fun t _ => ?_
  have e : count (slab b t).val (row b r).val = ∑ q, if inSlab b r q = t then 1 else 0 := by
    rw [count_eq]
    refine sum_congr rfl fun q _ => if_congr ?_ rfl rfl
    rw [← slab_inSlab, slab_inj]
  rw [mul_comm, e]

/-- THE BOX SUM: the two weighted sums, one inside the other, are the sum over the 32 × 32 window, times a share twice. -/
theorem box_sum (f : Fin 512 → Fin 512 → EReal) (b : Fin 4) (r : Fin 128) (j : Fin 512) :
    ∑ t, shares (count (slab b t).val (row b r).val) * ∑ m, f (slab b t) m * shares (count m.val j.val)
      = (∑ p, ∑ q, f (at_ (row b r) p) (at_ j q)) * ((1 / 1024 : ℝ) : EReal) := by
  have inner : ∀ i, ∑ m, f i m * shares (count m.val j.val) = (∑ q, f i (at_ j q)) * share := fun i => row_sum (f i) j
  rw [sum_congr rfl fun t _ => by rw [inner]]
  rw [col_sum (fun i => (∑ q, f i (at_ j q)) * share), sum_mul_share, mul_assoc]
  congr 1
  unfold share
  rw [← EReal.coe_mul]
  congr 1
  norm_num

end Cert.Box

end
-- ==== Proof.Scalar.lean ====
module

public import Idealize.ShloMosaic.PureOps.Ideal
public import proofs.«01_k».proof.Proof.Window

/-!
# One element: the words as numbers, and the two ways to divide by a deviation

The kernel multiplies by the reciprocal square root of the floored variance; the reference divides by its square root.
The floor is a positive number, so the two agree at every extended real, the infinities too.
-/

@[expose] public section

namespace Cert.Box

open Idealize.ShloMosaic

/-- A nonzero, finite f32 word without sign: its value. -/
theorem ofBits_normal (b : BitVec 32) (E f : ℕ) (hs : b.extractLsb' 31 1 = 0#1) (hE : (b.extractLsb' 23 8).toNat = E)
    (hf : (b.extractLsb' 0 23).toNat = f) (h1 : E ≠ 255) (h0 : E ≠ 0) :
    Ideal.ofBits .f32 b = (((2 ^ 23 + f : ℕ) * (2 : ℝ) ^ ((E : ℤ) - 150) : ℝ) : EReal) := by
  show Ideal.ieee 8 23 b = _
  unfold Ideal.ieee
  simp only [Nat.reduceAdd, hs, hE, hf]
  rw [if_neg (by omega), if_neg h0]
  norm_num
  rw [show (E : ℤ) - 127 - 23 = E - 150 by ring]

/-- The variance's floor, the f32 word nearest 1e-20. -/
noncomputable def floorVal : EReal := Ideal.ofBits .f32 0x1E3CE508#32

/-- It is a positive real. -/
theorem floorVal_pos : ∃ e : ℝ, 0 < e ∧ floorVal = (e : EReal) := by
  refine ⟨_, ?_, ofBits_normal _ 60 3990792 (by decide) (by decide) (by decide) (by decide) (by decide)⟩
  positivity

/-- DIVIDING BY THE DEVIATION: for any variance, floored, the product with the reciprocal square root is the quotient by
    the square root. -/
theorem mul_rsqrt_eq_div_sqrt (d v : EReal) :
    d * Ideal.rsqrt (max v floorVal) = Ideal.div d (Ideal.sqrt (max v floorVal)) := by
  obtain ⟨e, he, hfe⟩ := floorVal_pos
  have hpos : (0 : EReal) < max v floorVal := lt_of_lt_of_le (by rw [hfe]; exact_mod_cast he) (le_max_right _ _)
  generalize max v floorVal = u at hpos
  induction u using EReal.rec with
  | bot => exact absurd hpos (by simp)
  | top =>
    rw [show Ideal.rsqrt ⊤ = 0 from rfl, show Ideal.sqrt ⊤ = ⊤ from rfl, Ideal.div, if_neg (by simp), EReal.inv_top]
  | coe r =>
    have hr : 0 < r := by exact_mod_cast hpos
    have hs : Real.sqrt r ≠ 0 := (Real.sqrt_pos.2 hr).ne'
    have e₁ : Ideal.rsqrt (r : EReal) = (if r < 0 then ⊥ else if r = 0 then ⊤ else (((Real.sqrt r)⁻¹ : ℝ) : EReal) : EReal) := rfl
    have e₂ : Ideal.sqrt (r : EReal) = if r < 0 then ⊥ else (Real.sqrt r : EReal) := rfl
    rw [e₁, e₂, if_neg hr.not_gt, if_neg hr.ne', if_neg hr.not_gt, Ideal.div_coe hs, one_div]

/-- The reference's divisor, the f32 word of 1024, divides as the product with its reciprocal. -/
theorem div_1024 (x : EReal) : Ideal.div x (Ideal.ofBits .f32 0x44800000#32) = x * ((1 / 1024 : ℝ) : EReal) := by
  have h : Ideal.ofBits .f32 0x44800000#32 = ((1024 : ℝ) : EReal) := by
    rw [ofBits_normal _ 137 0 (by decide) (by decide) (by decide) (by decide) (by decide)]; congr 1; norm_num
  rw [h, Ideal.div_coe (by norm_num)]

/-- WHAT ONE RESULT ELEMENT IS, from the input element and the means of the values and of their squares around it:
    the distance from the mean, over the deviation with its floor, clipped to [-6, 6]. -/
noncomputable def normed (x mean meansq : EReal) : EReal :=
  min (max ((x - mean) * Ideal.rsqrt (max (max (meansq - mean * mean) (-(meansq - mean * mean))) floorVal)) (Ideal.ofBits .f32 0xC0C00000#32))
    (Ideal.ofBits .f32 0x40C00000#32)

/-- The box mean around row `i`, column `j` of a picture: its 32 × 32 window's sum, over 1024. -/
noncomputable def boxMean (f : Fin 512 → Fin 512 → EReal) (i j : Fin 512) : EReal :=
  (∑ p : Fin 32, ∑ q : Fin 32, f (at_ i p) (at_ j q)) * ((1 / 1024 : ℝ) : EReal)

/-- THE SPECIFICATION of one picture at row `i`, column `j`: the element `normed` by the box means of the values and of
    their squares around it. -/
noncomputable def pixel (f : Fin 512 → Fin 512 → EReal) (i j : Fin 512) : EReal :=
  normed (f i j) (boxMean f i j) (boxMean (fun u v => f u v * f u v) i j)

end Cert.Box

end
-- ==== Proof.Body.lean ====
module

public import proofs.«01_k».proof.Proof.Gen.KernelIdeal.Frame
public import proofs.«01_k».proof.Proof.Scalar
public import Idealize.ShloMosaic.Lib.Pointwise

/-!
# What one step of the kernel stores

A step has twelve pictures, taken in six pairs. For a pair, the two pictures and their squares go through the row weights
at once (`rowSums`); each block of 128 output rows then takes its 256 rows of those sums through its column weights
(`blockSums`), and the tail makes the stored rows of one picture from its two stretches of those means (`tail`).
-/

@[expose] public section

set_option maxRecDepth 16384

noncomputable section

namespace Cert.Box

open Idealize.ShloMosaic Cert.KernelIdeal Cert.KernelIdeal.Gen

/-- A picture, or the squares of its values, through the row weights. -/
def through (w : Vec Ideal S512x512 .fp8e4m3) (y : FVec Ideal S512x512 .f32) : FVec Ideal S512x512 .fp8e4m3 :=
  truncf .fp8e4m3 (matmul dot_S512x512_S512x512_S512x512_1_0_0_1_n_n none (truncf .fp8e4m3 y bitsLt_fp8e4m3_f32)
    (shapeCast S512x512 w shapeCasts_S512x512_S512x512 : FVec Ideal S512x512 .fp8e4m3) (constant S512x512 .f32 0x00000000#32)) bitsLt_fp8e4m3_f32

/-- A pair of pictures: the row sums of the first, of its squares, of the second and of its squares, one under the other. -/
def rowSums (w : Vec Ideal S512x512 .fp8e4m3) (xa xb : Vec Ideal S1x512x512 .f32) : FVec Ideal S2048x512 .fp8e4m3 :=
  let a : FVec Ideal S512x512 .f32 := shapeCast S512x512 xa shapeCasts_S1x512x512_S512x512
  let b : FVec Ideal S512x512 .f32 := shapeCast S512x512 xb shapeCasts_S1x512x512_S512x512
  concatenate S2048x512 0 [⟨S512x512, through w a⟩, ⟨S512x512, through w (mulf a a)⟩, ⟨S512x512, through w b⟩, ⟨S512x512, through w (mulf b b)⟩]
    concatenates_S512x512_S512x512_S512x512_S512x512_S2048x512_d0

/-- The 256 rows from `k + s` on are rows of such an array, for the four stretches of 512. -/
theorem slices_rows (s k : ℕ) (hs : s ≤ 256) (hk : k ≤ 1536) : S2048x512.Slices ![k + s, 0] S256x512 := by
  refine ⟨rfl, fun a => ?_⟩
  fin_cases a
  · show k + s + 256 ≤ 2048
    omega
  · show 0 + 512 ≤ 512
    omega

/-- The 512 columns from `k` on are columns of a block's means, for the four stretches of 512. -/
theorem slices_cols (k : ℕ) (hk : k ≤ 1536) : S128x2048.Slices ![0, k] S128x512 := by
  refine ⟨rfl, fun a => ?_⟩
  fin_cases a
  · show 0 + 128 ≤ 128
    omega
  · show k + 512 ≤ 2048
    omega

/-- Block `b`'s means: its 256 rows of each stretch, side by side, through the block's column weights. -/
def blockSums (h : FVec Ideal S2048x512 .fp8e4m3) (b : Fin 4) (wt : Vec Ideal S1x128x256 .fp8e4m3) : FVec Ideal S128x2048 .f32 :=
  matmul dot_S128x256_S256x2048_S128x2048_1_0_0_1_n_n none (shapeCast S128x256 wt shapeCasts_S1x128x256_S128x256 : FVec Ideal S128x256 .fp8e4m3)
    (concatenate S256x2048 1
      [⟨S256x512, extractStridedSlice S256x512 ![0 + start b, 0] h (slices_rows _ 0 (start_le b) (by omega))⟩,
       ⟨S256x512, extractStridedSlice S256x512 ![512 + start b, 0] h (slices_rows _ 512 (start_le b) (by omega))⟩,
       ⟨S256x512, extractStridedSlice S256x512 ![1024 + start b, 0] h (slices_rows _ 1024 (start_le b) (by omega))⟩,
       ⟨S256x512, extractStridedSlice S256x512 ![1536 + start b, 0] h (slices_rows _ 1536 (start_le b) (by omega))⟩]
      concatenates_S256x512_S256x512_S256x512_S256x512_S256x2048_d1 : FVec Ideal S256x2048 .fp8e4m3)
    (constant S128x2048 .f32 0x00000000#32)

/-- The stored rows of the pair's picture `j`, from the block's means and the picture's own rows. -/
def tail (v : FVec Ideal S128x2048 .f32) (j : Fin 2) (xb : Vec Ideal S1x128x512 .f32) : FVec Ideal S1x128x512 .f32 :=
  let mean : FVec Ideal S128x512 .f32 := extractStridedSlice S128x512 ![0, 1024 * j.val] v (slices_cols _ (by omega))
  let meansq : FVec Ideal S128x512 .f32 := extractStridedSlice S128x512 ![0, 1024 * j.val + 512] v (slices_cols _ (by omega))
  shapeCast S1x128x512 (minimumf (maximumf (mulf
      (subf (shapeCast S128x512 xb shapeCasts_S1x128x512_S128x512 : FVec Ideal S128x512 .f32) mean)
      (rsqrt (maximumf (absf (subf meansq (mulf mean mean))) (broadcast S128x512 (Scalar.ofBits (F := Ideal) .f32 0x1E3CE508#32)))))
    (broadcast S128x512 (Scalar.ofBits (F := Ideal) .f32 0xC0C00000#32))) (broadcast S128x512 (Scalar.ofBits (F := Ideal) .f32 0x40C00000#32)) : FVec Ideal S128x512 .f32)
    shapeCasts_S128x512_S1x128x512

/-- Picture `n` of the twelve, whole. -/
def whole (n : Fin 12) : Rect S12x512x512 := Rect.unit (s := S12x512x512) ![n.val, 0, 0] S1x512x512.size (by
  intro a
  have := n.isLt
  fin_cases a
  · show n.val + 1 ≤ 12
    omega
  · show 0 + 512 ≤ 512
    omega
  · show 0 + 512 ≤ 512
    omega)

/-- Rows `128 b` to `128 b + 127` of picture `n` of the twelve. -/
def band (n : Fin 12) (b : Fin 4) : Rect S12x512x512 := Rect.unit (s := S12x512x512) ![n.val, 128 * b.val, 0] S1x128x512.size (by
  intro a
  have := n.isLt
  have := b.isLt
  fin_cases a
  · show n.val + 1 ≤ 12
    omega
  · show 128 * b.val + 128 ≤ 512
    omega
  · show 0 + 512 ≤ 512
    omega)

/-- Block `b`'s column weights. -/
def weights (b : Fin 4) : Rect S4x128x256 := Rect.unit (s := S4x128x256) ![b.val, 0, 0] S1x128x256.size (by
  intro a
  have := b.isLt
  fin_cases a
  · show b.val + 1 ≤ 4
    omega
  · show 0 + 128 ≤ 128
    omega
  · show 0 + 256 ≤ 256
    omega)

/-- The whole of the row weights, as loaded. -/
def rowsOf (x1 : Vec Ideal S512x512 .fp8e4m3) : Vec Ideal S512x512 .fp8e4m3 := View.ld x1 r0_0

/-- Picture `n`, as loaded. -/
def wholeOf (x0 : Vec Ideal S12x512x512 .f32) (n : Fin 12) : Vec Ideal S1x512x512 .f32 := View.ld x0 (whole n)

/-- Block `b`'s rows of picture `n`, as loaded. -/
def bandOf (x0 : Vec Ideal S12x512x512 .f32) (n : Fin 12) (b : Fin 4) : Vec Ideal S1x128x512 .f32 := View.ld x0 (band n b)

/-- Block `b`'s column weights, as loaded. -/
def weightsOf (x2 : Vec Ideal S4x128x256 .fp8e4m3) (b : Fin 4) : Vec Ideal S1x128x256 .fp8e4m3 := View.ld x2 (weights b)

/-- Picture `j` of pair `g`. -/
def pic (g : Fin 6) (j : Fin 2) : Fin 12 := ⟨2 * g.val + j.val, by omega⟩

/-- What is stored for block `b` of picture `j` of pair `g`. -/
def stored (x0 : Vec Ideal S12x512x512 .f32) (x1 : Vec Ideal S512x512 .fp8e4m3) (x2 : Vec Ideal S4x128x256 .fp8e4m3)
    (g : Fin 6) (b : Fin 4) (j : Fin 2) : Vec Ideal S1x128x512 .f32 :=
  tail (blockSums (rowSums (rowsOf x1) (wholeOf x0 (pic g 0)) (wholeOf x0 (pic g 1))) b (weightsOf x2 b)) j (bandOf x0 (pic g j) b)

/-- Where, and what. -/
def piece (x0 : Vec Ideal S12x512x512 .f32) (x1 : Vec Ideal S512x512 .fp8e4m3) (x2 : Vec Ideal S4x128x256 .fp8e4m3)
    (g : Fin 6) (b : Fin 4) (j : Fin 2) : View.Piece (Elt Ideal) S12x512x512 .f32 :=
  ⟨band (pic g j) b, stored x0 x1 x2 g b j⟩

/-- The step's 48 stores, the last first: pair by pair, block by block, picture by picture. -/
def pieces (x0 : Vec Ideal S12x512x512 .f32) (x1 : Vec Ideal S512x512 .fp8e4m3) (x2 : Vec Ideal S4x128x256 .fp8e4m3) :
    List (View.Piece (Elt Ideal) S12x512x512 .f32) :=
  [5, 4, 3, 2, 1, 0].flatMap fun g => [3, 2, 1, 0].flatMap fun b => [1, 0].map fun j => piece x0 x1 x2 g b j

/-- The step's result is its stores. -/
theorem out_eq (x0 : Vec Ideal S12x512x512 .f32) (x1 : Vec Ideal S512x512 .fp8e4m3) (x2 : Vec Ideal S4x128x256 .fp8e4m3) :
    out0_3 x0 x1 x2 = View.canon (pieces x0 x1 x2) := by
  sl_kernel_rfl

end Cert.Box

end
-- ==== Proof.Block.lean ====
module

public import proofs.«01_k».proof.Proof.Body
public import Idealize.ShloMosaic.Lib.Pipeline.ValueKit.Tiles

/-!
# The stores of one step, read at an index
-/

@[expose] public section

set_option maxRecDepth 16384

noncomputable section

namespace Cert.Box

open Idealize.ShloMosaic Cert.KernelIdeal Cert.KernelIdeal.Gen

/-- Through the row weights: each entry is the weighted sum along its row. -/
theorem through_apply (w : Vec Ideal S512x512 .fp8e4m3) (y : FVec Ideal S512x512 .f32) (u c : Fin 512) :
    through w y (ix2 u c) = ∑ m : Fin 512, y (ix2 u m) * w (ix2 m c) := by
  pointwise [through]

/-- The four pictures of a pair as the kernel holds them: the first, its squares, the second, its squares. -/
def layer (xa xb : Vec Ideal S1x512x512 .f32) : Fin 4 → FVec Ideal S512x512 .f32
  | 0 => shapeCast S512x512 xa shapeCasts_S1x512x512_S512x512
  | 1 => mulf (shapeCast S512x512 xa shapeCasts_S1x512x512_S512x512 : FVec Ideal S512x512 .f32) (shapeCast S512x512 xa shapeCasts_S1x512x512_S512x512)
  | 2 => shapeCast S512x512 xb shapeCasts_S1x512x512_S512x512
  | 3 => mulf (shapeCast S512x512 xb shapeCasts_S1x512x512_S512x512 : FVec Ideal S512x512 .f32) (shapeCast S512x512 xb shapeCasts_S1x512x512_S512x512)

/-- Row `512 k + u` of a pair's row sums is row `u` of the sums of its picture `k`. -/
theorem rowSums_apply (w : Vec Ideal S512x512 .fp8e4m3) (xa xb : Vec Ideal S1x512x512 .f32) (k : Fin 4) (u c : Fin 512)
    (i : Fin 2048) (hi : i.val = 512 * k.val + u.val) :
    rowSums w xa xb (ix2 i c) = ∑ m : Fin 512, layer xa xb k (ix2 u m) * w (ix2 m c) := by
  rw [← through_apply]
  refine concatenate_ofFn_apply (t := S2048x512) (s₁ := S512x512) (0 : Fin 2) (fun k : Fin 4 => through w (layer xa xb k))
    concatenates_S512x512_S512x512_S512x512_S512x512_S2048x512_d0 rfl 512 rfl (ix2 i c) k ?_ (ix2 u c) ?_ ?_
  · show i.val / 512 = k.val
    omega
  · show u.val = i.val % 512
    omega
  · intro a ha
    fin_cases a
    · exact absurd rfl ha
    · rfl

/-- The stretches a block puts side by side. -/
theorem stretches (h : FVec Ideal S2048x512 .fp8e4m3) (b : Fin 4) (k : Fin 4) (t : Fin 256) (c : Fin 512) (i : Fin 2048)
    (hi : i.val = 512 * k.val + c.val) :
    (concatenate S256x2048 1
      [⟨S256x512, extractStridedSlice S256x512 ![0 + start b, 0] h (slices_rows _ 0 (start_le b) (by omega))⟩,
       ⟨S256x512, extractStridedSlice S256x512 ![512 + start b, 0] h (slices_rows _ 512 (start_le b) (by omega))⟩,
       ⟨S256x512, extractStridedSlice S256x512 ![1024 + start b, 0] h (slices_rows _ 1024 (start_le b) (by omega))⟩,
       ⟨S256x512, extractStridedSlice S256x512 ![1536 + start b, 0] h (slices_rows _ 1536 (start_le b) (by omega))⟩]
      concatenates_S256x512_S256x512_S256x512_S256x512_S256x2048_d1 : FVec Ideal S256x2048 .fp8e4m3) (ix2 t i)
      = h (ix2 ⟨512 * k.val + (slab b t).val, by omega⟩ c) := by
  refine (concatenate_ofFn_apply (t := S256x2048) (s₁ := S256x512) (1 : Fin 2)
    (fun k : Fin 4 => (extractStridedSlice S256x512 ![512 * k.val + start b, 0] h (slices_rows _ _ (start_le b) (by omega)) : FVec Ideal S256x512 .fp8e4m3))
    concatenates_S256x512_S256x512_S256x512_S256x512_S256x2048_d1 rfl 512 rfl (ix2 t i) k ?_ (ix2 t c) ?_ ?_).trans ?_
  · show i.val / 512 = k.val
    omega
  · show c.val = i.val % 512
    omega
  · intro a ha
    fin_cases a
    · rfl
    · exact absurd rfl ha
  · pointwise [slab]
    exact congrArg (fun q => h (ix2 q c)) (Fin.ext (by show 512 * k.val + start b + t.val = 512 * k.val + (start b + t.val); omega))

/-- Column `512 k + c` of a block's means takes the block's rows of stretch `k` through its weights. -/
theorem blockSums_apply (h : FVec Ideal S2048x512 .fp8e4m3) (b : Fin 4) (wt : Vec Ideal S1x128x256 .fp8e4m3) (k : Fin 4)
    (r : Fin 128) (c : Fin 512) (i : Fin 2048) (hi : i.val = 512 * k.val + c.val) :
    blockSums h b wt (ix2 r i) = ∑ t : Fin 256, wt (ix3 0 r t) *
      h (ix2 ⟨512 * k.val + (slab b t).val, by omega⟩ c) := by
  simp only [← stretches h b k _ c i hi]
  simp only [blockSums]
  generalize concatenate _ _ _ _ = y
  pointwise

/-- The tail normalises the picture's rows by their two stretches of means. -/
theorem tail_apply (v : FVec Ideal S128x2048 .f32) (j : Fin 2) (xb : Vec Ideal S1x128x512 .f32) (r : Fin 128) (c : Fin 512) :
    tail v j xb (ix3 0 r c) = normed (xb (ix3 0 r c)) (v (ix2 r ⟨1024 * j.val + c.val, by omega⟩))
      (v (ix2 r ⟨1024 * j.val + 512 + c.val, by omega⟩)) := by
  pointwise [tail, normed]
  rfl

/-- The whole of the row weights. -/
theorem ld_rows (x1 : Vec Ideal S512x512 .fp8e4m3) (m c : Fin 512) : rowsOf x1 (ix2 m c) = x1 (ix2 m c) := by
  refine View.ld_unit_apply_of _ _ _ _ _ _ fun a => ?_
  fin_cases a <;> exact (Nat.zero_add _).symm

/-- Picture `n` of the twelve. -/
theorem ld_whole (x0 : Vec Ideal S12x512x512 .f32) (n : Fin 12) (u v : Fin 512) :
    wholeOf x0 n (ix3 0 u v) = x0 (ix3 n u v) := by
  refine View.ld_unit_apply_of _ _ _ _ _ _ fun a => ?_
  fin_cases a
  · rfl
  · exact (Nat.zero_add _).symm
  · exact (Nat.zero_add _).symm

/-- Block `b`'s rows of picture `n`. -/
theorem ld_band (x0 : Vec Ideal S12x512x512 .f32) (n : Fin 12) (b : Fin 4) (r : Fin 128) (c : Fin 512) :
    bandOf x0 n b (ix3 0 r c) = x0 (ix3 n (row b r) c) := by
  refine View.ld_unit_apply_of _ _ _ _ _ _ fun a => ?_
  fin_cases a
  · rfl
  · rfl
  · exact (Nat.zero_add _).symm

/-- Block `b`'s column weights. -/
theorem ld_weights (x2 : Vec Ideal S4x128x256 .fp8e4m3) (b : Fin 4) (r : Fin 128) (t : Fin 256) :
    weightsOf x2 b (ix3 0 r t) = x2 (ix3 b r t) := by
  refine View.ld_unit_apply_of _ _ _ _ _ _ fun a => ?_
  fin_cases a
  · rfl
  · exact (Nat.zero_add _).symm
  · exact (Nat.zero_add _).symm

/-- A picture through the row weights and then through block `b`'s column weights. -/
def twice (f : Fin 512 → Fin 512 → EReal) (x1 : Vec Ideal S512x512 .fp8e4m3) (x2 : Vec Ideal S4x128x256 .fp8e4m3)
    (b : Fin 4) (r : Fin 128) (c : Fin 512) : EReal :=
  ∑ t : Fin 256, x2 (ix3 b r t) * ∑ m : Fin 512, f (slab b t) m * x1 (ix2 m c)

/-- What a step leaves at row `r` of block `b`, column `c`, of its picture `n`. -/
def stepAt (x0 : Vec Ideal S12x512x512 .f32) (x1 : Vec Ideal S512x512 .fp8e4m3) (x2 : Vec Ideal S4x128x256 .fp8e4m3)
    (n : Fin 12) (b : Fin 4) (r : Fin 128) (c : Fin 512) : EReal :=
  normed (x0 (ix3 n (row b r) c)) (twice (fun u v => x0 (ix3 n u v)) x1 x2 b r c)
    (twice (fun u v => x0 (ix3 n u v) * x0 (ix3 n u v)) x1 x2 b r c)

/-- A pair's picture `j`, and its squares, among the pair's four. -/
theorem layer_apply (x0 : Vec Ideal S12x512x512 .f32) (g : Fin 6) (j : Fin 2) (u v : Fin 512) :
    layer (wholeOf x0 (pic g 0)) (wholeOf x0 (pic g 1)) ⟨2 * j.val, by omega⟩ (ix2 u v) = x0 (ix3 (pic g j) u v) ∧
    layer (wholeOf x0 (pic g 0)) (wholeOf x0 (pic g 1)) ⟨2 * j.val + 1, by omega⟩ (ix2 u v)
      = x0 (ix3 (pic g j) u v) * x0 (ix3 (pic g j) u v) := by
  fin_cases j
  · refine ⟨?_, ?_⟩ <;> simp only [← ld_whole] <;> pointwise [layer]
  · refine ⟨?_, ?_⟩ <;> simp only [← ld_whole] <;> pointwise [layer]

/-- Each stretch of a block's means is the picture through both weights. -/
theorem mean_apply (x0 : Vec Ideal S12x512x512 .f32) (x1 : Vec Ideal S512x512 .fp8e4m3) (x2 : Vec Ideal S4x128x256 .fp8e4m3)
    (xa xb : Vec Ideal S1x512x512 .f32) (b : Fin 4) (k : Fin 4) (r : Fin 128) (c : Fin 512) (i : Fin 2048) (hi : i.val = 512 * k.val + c.val) :
    blockSums (rowSums (rowsOf x1) xa xb) b (weightsOf x2 b) (ix2 r i)
      = twice (fun u v => layer xa xb k (ix2 u v)) x1 x2 b r c := by
  rw [blockSums_apply _ b _ k r c i hi]
  refine Finset.sum_congr rfl fun t _ => ?_
  rw [ld_weights, rowSums_apply _ _ _ k (slab b t) c _ rfl]
  simp only [ld_rows]

/-- A store's payload at an index. -/
theorem stored_apply (x0 : Vec Ideal S12x512x512 .f32) (x1 : Vec Ideal S512x512 .fp8e4m3) (x2 : Vec Ideal S4x128x256 .fp8e4m3)
    (g : Fin 6) (b : Fin 4) (j : Fin 2) (r : Fin 128) (c : Fin 512) :
    stored x0 x1 x2 g b j (ix3 0 r c) = stepAt x0 x1 x2 (pic g j) b r c := by
  rw [stored, tail_apply, ld_band,
    mean_apply x0 x1 x2 _ _ b ⟨2 * j.val, by omega⟩ r c _ (by show 1024 * j.val + c.val = 512 * (2 * j.val) + c.val; omega),
    mean_apply x0 x1 x2 _ _ b ⟨2 * j.val + 1, by omega⟩ r c _ (by show 1024 * j.val + 512 + c.val = 512 * (2 * j.val + 1) + c.val; omega)]
  simp only [(layer_apply x0 g j _ _).1, (layer_apply x0 g j _ _).2, stepAt]

/-- What a step leaves, as one function of the index in its twelve pictures. -/
def stepValue (x0 : Vec Ideal S12x512x512 .f32) (x1 : Vec Ideal S512x512 .fp8e4m3) (x2 : Vec Ideal S4x128x256 .fp8e4m3) :
    Vec Ideal S12x512x512 .f32 := fun y =>
  stepAt x0 x1 x2 (y 0) ⟨(y 1).val / 128, by have : (y 1).val < 512 := (y 1).isLt; omega⟩ ⟨(y 1).val % 128, by omega⟩ (y 2)

/-- `stepValue` at an index whose coordinates are known. -/
theorem stepValue_apply (x0 : Vec Ideal S12x512x512 .f32) (x1 : Vec Ideal S512x512 .fp8e4m3) (x2 : Vec Ideal S4x128x256 .fp8e4m3)
    (n : Fin 12) (b : Fin 4) (r : Fin 128) (c : Fin 512) (y : S12x512x512.Idx)
    (h0 : (y 0).val = n.val) (h1 : (y 1).val = 128 * b.val + r.val) (h2 : (y 2).val = c.val) :
    stepValue x0 x1 x2 y = stepAt x0 x1 x2 n b r c := by
  have e0 : y 0 = n := Fin.ext h0
  have e2 : y 2 = c := Fin.ext h2
  have eb : (⟨(y 1).val / 128, by have : (y 1).val < 512 := (y 1).isLt; omega⟩ : Fin 4) = b := Fin.ext (by show (y 1).val / 128 = b.val; omega)
  have er : (⟨(y 1).val % 128, by omega⟩ : Fin 128) = r := Fin.ext (by show (y 1).val % 128 = r.val; omega)
  rw [stepValue, e0, e2, eb, er]

/-- Which indices a store covers. -/
theorem mem_band (n : Fin 12) (b : Fin 4) (y : S12x512x512.Idx) : y ∈ (band n b).set ↔
    ∀ a, (![n.val, 128 * b.val, 0] : Fin 3 → ℕ) a ≤ y a ∧ (y a : ℕ) < (![n.val, 128 * b.val, 0] : Fin 3 → ℕ) a + S1x128x512.size a := by
  unfold band
  exact Rect.mem_set_unit

/-- The step's result at an index. -/
theorem out_apply (x0 : Vec Ideal S12x512x512 .f32) (x1 : Vec Ideal S512x512 .fp8e4m3) (x2 : Vec Ideal S4x128x256 .fp8e4m3)
    (y : S12x512x512.Idx) : out0_3 x0 x1 x2 y = stepValue x0 x1 x2 y := by
  have hy0 : (y 0).val < 12 := (y 0).isLt
  have hy1 : (y 1).val < 512 := (y 1).isLt
  have hy2 : (y 2).val < 512 := (y 2).isLt
  rw [out_eq]
  refine View.canon_apply_of_pieces (stepValue x0 x1 x2) _ ?_ y ?_
  · intro p hp
    simp only [pieces, List.mem_flatMap, List.mem_map] at hp
    obtain ⟨g, -, b, -, j, -, rfl⟩ := hp
    intro x
    have hx0 : (x 0).val < 1 := (x 0).isLt
    refine Eq.trans ?_ (stepValue_apply x0 x1 x2 (pic g j) b (x 1) (x 2) _ ?_ ?_ ?_).symm
    · refine Eq.trans ?_ (stored_apply x0 x1 x2 g b j (x 1) (x 2))
      refine congrArg (stored x0 x1 x2 g b j) (funext fun a => ?_)
      fin_cases a
      · exact Fin.ext (by show (x 0).val = 0; omega)
      · rfl
      · rfl
    · show (pic g j).val + 1 * (x 0).val = (pic g j).val
      omega
    · show 128 * b.val + 1 * (x 1).val = 128 * b.val + (x 1).val
      omega
    · show 0 + 1 * (x 2).val = (x 2).val
      omega
  · refine ⟨piece x0 x1 x2 ⟨(y 0).val / 2, by omega⟩ ⟨(y 1).val / 128, by omega⟩ ⟨(y 0).val % 2, by omega⟩, ?_, ?_⟩
    · simp only [pieces, List.mem_flatMap, List.mem_map]
      refine ⟨_, ?_, _, ?_, _, ?_, rfl⟩
      · generalize (⟨(y 0).val / 2, _⟩ : Fin 6) = g
        revert g; decide
      · generalize (⟨(y 1).val / 128, _⟩ : Fin 4) = b
        revert b; decide
      · generalize (⟨(y 0).val % 2, _⟩ : Fin 2) = j
        revert j; decide
    · refine (mem_band _ _ y).mpr fun a => ?_
      fin_cases a
      · show 2 * ((y 0).val / 2) + (y 0).val % 2 ≤ (y 0).val ∧ (y 0).val < 2 * ((y 0).val / 2) + (y 0).val % 2 + 1
        omega
      · show 128 * ((y 1).val / 128) ≤ (y 1).val ∧ (y 1).val < 128 * ((y 1).val / 128) + 128
        omega
      · show 0 ≤ (y 2).val ∧ (y 2).val < 0 + 512
        omega

end Cert.Box

end
-- ==== Proof.Counts.lean ====
module

public import proofs.«01_k».proof.Proof.Gen.KernelIdeal.Frame
public import proofs.«01_k».proof.Proof.Scalar
public import Idealize.ShloMosaic.Lib.Pointwise
public import Idealize.ShloMosaic.Lib.Pipeline.Value
public import Idealize.ShloMosaic.Lib.Tactic

/-!
# The weights that the host computes for the kernel

The host counts how often each window with reflected borders shows each value (`counts`), divides by 32 for the row
weights (`rowTable`), and cuts the column weights out of the same counts, rows and columns exchanged (`colTable`).
-/

@[expose] public section

set_option maxRecDepth 16384

noncomputable section

namespace Cert.Box

open Idealize.ShloMosaic Idealize.ShloMosaic.TcCoe Cert.KernelIdeal Cert.KernelIdeal.Gen

/-- Which value place `k` of window `j` shows, as the host computes it: `main_v15`. -/
def shown : IVec S512x512x32 32 :=
  let r : IVec S512x512x32 32 := subi (addi (iotaInDim S512x512x32 32 1) (iotaInDim S512x512x32 32 2)) (broadcastInDim S512x512x32 ![] bcast_S_S512x512x32 (constantI S_ 32 16#32))
  select (cmpi .slt r (broadcastInDim S512x512x32 ![] bcast_S_S512x512x32 (constantI S_ 32 0#32))) (negi r)
    (select (cmpi .sgt r (broadcastInDim S512x512x32 ![] bcast_S_S512x512x32 (constantI S_ 32 511#32)))
      (subi (broadcastInDim S512x512x32 ![] bcast_S_S512x512x32 (constantI S_ 32 1022#32)) r) r)

/-- How often window `j` shows value `m`, as the host counts it. -/
def counts : FVec Ideal S512x512 .f32 :=
  Host.reduceAdd (select (cmpi .eq shown (iotaInDim S512x512x32 32 0))
    (broadcastInDim S512x512x32 ![] bcast_S_S512x512x32 (constant S_ .f32 0x3F800000#32))
    (broadcastInDim S512x512x32 ![] bcast_S_S512x512x32 (constant S_ .f32 0x00000000#32)) : FVec Ideal S512x512x32 .f32)
    (constant S_ .f32 0x00000000#32) reducesTo_S512x512x32_S512x512_d2 h_S_

/-- The row weights. -/
def rowTable : FVec Ideal S512x512 .fp8e4m3 :=
  Host.convertf .fp8e4m3 (Host.divf counts (broadcastInDim S512x512 ![] bcast_S_S512x512 (constant S_ .f32 0x42000000#32)) : FVec Ideal S512x512 .f32)

/-- One block of the column weights: rows and columns of the counts exchanged, 128 windows by 256 values. -/
def colBlock (p q : ℕ) (h : S512x512.Slices ![p, q] S128x256) : FVec Ideal S1x128x256 .f32 :=
  broadcastInDim S1x128x256 ![1, 2] bcast_S128x256_S1x128x256_1_2
    (extractStridedSlice S128x256 ![p, q] (transpose S512x512 [1, 0] counts transposes_S512x512_S512x512_1_0 : FVec Ideal S512x512 .f32) h : FVec Ideal S128x256 .f32)

/-- The column weights. -/
def colTable : FVec Ideal S4x128x256 .fp8e4m3 :=
  Host.convertf .fp8e4m3 (Host.divf (concatenate S4x128x256 0
    [⟨S1x128x256, colBlock 0 0 slices_S512x512_S128x256_0_0⟩, ⟨S1x128x256, colBlock 128 64 slices_S512x512_S128x256_128_64⟩,
     ⟨S1x128x256, colBlock 256 192 slices_S512x512_S128x256_256_192⟩, ⟨S1x128x256, colBlock 384 256 slices_S512x512_S128x256_384_256⟩]
    concatenates_S1x128x256_S1x128x256_S1x128x256_S1x128x256_S4x128x256_d0 : FVec Ideal S4x128x256 .f32)
    (broadcastInDim S4x128x256 ![] bcast_S_S4x128x256 (constant S_ .f32 0x42000000#32)) : FVec Ideal S4x128x256 .f32)

variable (m : (ℓ : Loc nD τ sig) → Buf (Elt Ideal) ℓ)

/-- The pictures are the images, their two leading axes made one. -/
theorem pictures_eq (c : Dev nD) : (V m c main_v0 : Vec Ideal S96x512x512 .f32) = shapeCast S96x512x512 (m ((c.tc : Thread nD τ).loc main_arg0)) shapeCasts_S32x3x512x512_S96x512x512 := by
  sl_kernel_rfl

/-- The row weights are `rowTable`. -/
theorem rows_eq (c : Dev nD) : (V m c main_v35 : Vec Ideal S512x512 .fp8e4m3) = rowTable := by
  sl_kernel_rfl

/-- The column weights are `colTable`. -/
theorem cols_eq (c : Dev nD) : (V m c main_v38 : Vec Ideal S4x128x256 .fp8e4m3) = colTable := by
  sl_kernel_rfl

/-- The host's reflection, on the words of the 544 positions, is `refl`. -/
theorem shown_word : ∀ p : Fin 544,
    Scalar.select (IntOp.cmpi CmpIPredicate.slt (IntOp.subi (BitVec.ofNat 32 p.val) 16#32) 0#32) (-IntOp.subi (BitVec.ofNat 32 p.val) 16#32)
      (Scalar.select (IntOp.cmpi CmpIPredicate.sgt (IntOp.subi (BitVec.ofNat 32 p.val) 16#32) 511#32)
        (IntOp.subi 1022#32 (IntOp.subi (BitVec.ofNat 32 p.val) 16#32)) (IntOp.subi (BitVec.ofNat 32 p.val) 16#32))
      = BitVec.ofNat 32 (refl p.val) := by
  decide +kernel

/-- Place `k` of window `v` shows the value `refl (v + k)`. -/
theorem shown_apply (u v : Fin 512) (k : Fin 32) : shown (ix3 u v k) = BitVec.ofNat 32 (refl (v.val + k.val)) := by
  pointwise [shown]
  have e : IntOp.addi (BitVec.ofNat 32 v.val) (BitVec.ofNat 32 k.val) = BitVec.ofNat 32 (v.val + k.val) := (BitVec.ofNat_add _ _).symm
  rw [e]
  exact shown_word ⟨v.val + k.val, by omega⟩

/-- Whether two values are equal, as the host weighs it. -/
theorem weigh (a b : Fin 512) (x : EReal) (y : EReal) :
    Scalar.select (IntOp.cmpi CmpIPredicate.eq (BitVec.ofNat 32 a.val) (BitVec.ofNat 32 b.val)) x y = if a = b then x else y := by
  have h : BitVec.ofNat 32 a.val = BitVec.ofNat 32 b.val ↔ a = b := by
    refine ⟨fun h => Fin.ext ?_, fun h => h ▸ rfl⟩
    have := congrArg BitVec.toNat h
    simp only [BitVec.toNat_ofNat] at this
    omega
  by_cases hab : a = b
  · subst hab
    rw [if_pos rfl]
    simp [Scalar.select, IntOp.cmpi]
  · rw [if_neg hab]
    simp [Scalar.select, IntOp.cmpi, beq_eq_false_iff_ne.mpr (mt h.mp hab)]

/-- The host's count at (u, v) is `count`. -/
theorem counts_apply (u v : Fin 512) : counts (ix2 u v) = ((count u.val v.val : ℝ) : EReal) := by
  pointwise [counts, shown_apply]
  rw [count_eq]
  push_cast
  refine Eq.trans (Finset.sum_congr rfl fun q _ => ?_) (map_sum (⟨⟨Real.toEReal, EReal.coe_zero⟩, EReal.coe_add⟩ : ℝ →+ EReal) _ _).symm
  refine (weigh (at_ v q) u 1 0).trans ?_
  show _ = ((if at_ v q = u then (1 : ℝ) else 0 : ℝ) : EReal)
  split_ifs <;> rfl

/-- The word of 32 divides a count into shares. -/
theorem div_32 (k : ℕ) : Ideal.div ((k : ℝ) : EReal) (Ideal.ofBits .f32 0x42000000#32) = shares k := by
  have h : Ideal.ofBits .f32 0x42000000#32 = ((32 : ℝ) : EReal) := by
    rw [ofBits_normal _ 132 0 (by decide) (by decide) (by decide) (by decide) (by decide)]; congr 1; norm_num
  rw [h, Ideal.div_coe (by norm_num), ← EReal.coe_mul, shares]
  congr 1
  ring

/-- The row weights, index by index. -/
theorem rowTable_apply (u v : Fin 512) : rowTable (ix2 u v) = shares (count u.val v.val) := by
  pointwise [rowTable, counts_apply]
  exact div_32 _

/-- A block of the column weights, index by index. -/
theorem colBlock_apply (p q : ℕ) (h : S512x512.Slices ![p, q] S128x256) (r : Fin 128) (t : Fin 256) (u v : Fin 512)
    (hu : u.val = q + t.val) (hv : v.val = p + r.val) : colBlock p q h (ix3 0 r t) = counts (ix2 u v) := by
  obtain ⟨u, hu'⟩ := u
  obtain ⟨v, hv'⟩ := v
  subst hu hv
  pointwise [colBlock]

/-- Block `b`'s 128 windows and 256 values are within the counts. -/
theorem slices_block (b : Fin 4) : S512x512.Slices ![128 * b.val, start b] S128x256 := by
  refine ⟨rfl, fun a => ?_⟩
  have := start_le b
  fin_cases a
  · show 128 * b.val + 128 ≤ 512
    omega
  · show start b + 256 ≤ 512
    omega

/-- The column weights, index by index: block `b`'s windows against the values of its slab. -/
theorem colTable_apply (b : Fin 4) (r : Fin 128) (t : Fin 256) : colTable (ix3 b r t) = shares (count (slab b t).val (row b r).val) := by
  rw [← div_32, ← counts_apply, ← colBlock_apply (128 * b.val) (start b) (slices_block b) r t (slab b t) (row b r) rfl rfl]
  refine congrArg (fun y : EReal => Ideal.div y (Ideal.ofBits .f32 0x42000000#32)) ?_
  refine concatenate_ofFn_apply (t := S4x128x256) (s₁ := S1x128x256) (0 : Fin 3)
    (fun b : Fin 4 => colBlock (128 * b.val) (start b) (slices_block b))
    concatenates_S1x128x256_S1x128x256_S1x128x256_S1x128x256_S4x128x256_d0 rfl 1 rfl (ix3 b r t) b ?_ (ix3 0 r t) ?_ ?_
  · show b.val / 1 = b.val
    omega
  · show 0 = b.val % 1
    omega
  · intro a ha
    fin_cases a
    · exact absurd rfl ha
    · rfl
    · rfl

end Cert.Box

end
-- ==== Proof.Reference.lean ====
module

public import proofs.«01_k».proof.Proof.Gen.ReferenceIdeal.Run
public import proofs.«01_k».proof.Proof.Scalar
public import Idealize.ShloMosaic.Lib.Pointwise

/-!
# What the reference computes, element by element

The reflected padding of an image read at a position is the image at the value that position shows, and the reference's
result at image (a, b), row i and column j is `normed` of the element and of the two box means around it.
-/

@[expose] public section

set_option maxRecDepth 16384

noncomputable section

namespace Cert.Box

open Idealize.ShloMosaic Cert.ReferenceIdeal Cert.ReferenceIdeal.Gen

/-- The images, of extended reals. -/
abbrev Images := FVec Ideal S32x3x512x512 .f32

/-- The images with 16 reflected rows above and below. -/
def tall (x : Images) : FVec Ideal S32x3x544x512 .f32 :=
  let top : FVec Ideal S32x3x528x512 .f32 := concatenate S32x3x528x512 2 [⟨S32x3x16x512, Host.reverse [2] (extractStridedSlice S32x3x16x512 ![0, 0, 1, 0] x slices_S32x3x512x512_S32x3x16x512_0_0_1_0)⟩, ⟨S32x3x512x512, x⟩] concatenates_S32x3x16x512_S32x3x512x512_S32x3x528x512_d2
  concatenate S32x3x544x512 2 [⟨S32x3x528x512, top⟩, ⟨S32x3x16x512, Host.reverse [2] (extractStridedSlice S32x3x16x512 ![0, 0, 511, 0] top slices_S32x3x528x512_S32x3x16x512_0_0_511_0)⟩] concatenates_S32x3x528x512_S32x3x16x512_S32x3x544x512_d2

/-- The tall images with 16 reflected columns left and right. -/
def wide (y : FVec Ideal S32x3x544x512 .f32) : FVec Ideal S32x3x544x544 .f32 :=
  let left : FVec Ideal S32x3x544x528 .f32 := concatenate S32x3x544x528 3 [⟨S32x3x544x16, Host.reverse [3] (extractStridedSlice S32x3x544x16 ![0, 0, 0, 1] y slices_S32x3x544x512_S32x3x544x16_0_0_0_1)⟩, ⟨S32x3x544x512, y⟩] concatenates_S32x3x544x16_S32x3x544x512_S32x3x544x528_d3
  concatenate S32x3x544x544 3 [⟨S32x3x544x528, left⟩, ⟨S32x3x544x16, Host.reverse [3] (extractStridedSlice S32x3x544x16 ![0, 0, 0, 511] left slices_S32x3x544x528_S32x3x544x16_0_0_0_511)⟩] concatenates_S32x3x544x528_S32x3x544x16_S32x3x544x544_d3

/-- Row `p` of the tall images is the row that position `p` shows. -/
theorem tall_apply (x : Images) (a : Fin 32) (b : Fin 3) (p : Fin 544) (c : Fin 512) :
    tall x (ix4 a b p c) = x (ix4 a b ⟨refl p.val, refl_lt p.isLt⟩ c) := by
  unfold tall
  pointwise
  simp only [List.mem_singleton, Fin.reduceEq, ↓reduceIte, Fin.val_rev]
  have hp := p.isLt
  have hr : refl p.val = if p.val < 16 then 16 - p.val else if p.val < 528 then p.val - 16 else 1038 - p.val := rfl
  by_cases h₁ : p.val < 528
  · rw [dif_pos h₁]
    by_cases h₂ : p.val < 16
    · rw [dif_pos h₂]
      rw [if_pos h₂] at hr
      congr 2
      exact Fin.ext (by show 1 + (16 - (p.val + 1)) = refl p.val; omega)
    · rw [dif_neg h₂]
      rw [if_neg h₂, if_pos h₁] at hr
      congr 2
      exact Fin.ext (by show p.val - 16 = refl p.val; omega)
  · rw [dif_neg h₁, dif_neg (by omega)]
    rw [if_neg (by omega), if_neg h₁] at hr
    congr 2
    exact Fin.ext (by show 511 + (16 - (p.val - 528 + 1)) - 16 = refl p.val; omega)

/-- Column `q` of the wide images is the column that position `q` shows. -/
theorem wide_apply (y : FVec Ideal S32x3x544x512 .f32) (a : Fin 32) (b : Fin 3) (p q : Fin 544) :
    wide y (ix4 a b p q) = y (ix4 a b p ⟨refl q.val, refl_lt q.isLt⟩) := by
  unfold wide
  pointwise
  simp only [List.mem_singleton, Fin.reduceEq, ↓reduceIte, Fin.val_rev]
  have hp := q.isLt
  have hr : refl q.val = if q.val < 16 then 16 - q.val else if q.val < 528 then q.val - 16 else 1038 - q.val := rfl
  by_cases h₁ : q.val < 528
  · rw [dif_pos h₁]
    by_cases h₂ : q.val < 16
    · rw [dif_pos h₂]
      rw [if_pos h₂] at hr
      congr 2
      exact Fin.ext (by show 1 + (16 - (q.val + 1)) = refl q.val; omega)
    · rw [dif_neg h₂]
      rw [if_neg h₂, if_pos h₁] at hr
      congr 2
      exact Fin.ext (by show q.val - 16 = refl q.val; omega)
  · rw [dif_neg h₁, dif_neg (by omega)]
    rw [if_neg (by omega), if_neg h₁] at hr
    congr 2
    exact Fin.ext (by show 511 + (16 - (q.val - 528 + 1)) - 16 = refl q.val; omega)

/-- A left fold of additions is a sum. -/
theorem foldl_add {n : ℕ} (g : Fin n → EReal) (v : EReal) :
    (List.finRange n).foldl (fun r k => r + g k) v = v + ∑ k, g k := by
  rw [← List.sum_ofFn, List.ofFn_eq_map]
  generalize List.finRange n = L
  induction L generalizing v with
  | nil => simp
  | cons k L ih => rw [List.foldl_cons, ih, List.map_cons, List.sum_cons, add_assoc]

/-- The box sums of an extended image. -/
def boxes (z : FVec Ideal S32x3x544x544 .f32) : FVec Ideal S32x3x513x513 .f32 :=
  Host.reduceWindowAdd ![1, 1, 32, 32] ![1, 1, 1, 1] ![0, 0, 0, 0] ![0, 0, 0, 0] z
    (broadcastInDim S_ ![] bcast_S_S_ (constant S_ .f32 0x00000000#32))
    reduceWindows_S32x3x544x544_S32x3x513x513_w1s1p0_0_w1s1p0_0_w32s1p0_0_w32s1p0_0 h_S_

/-- Box sum (i, j) adds the 32 × 32 positions from (i, j) on. -/
theorem boxes_apply (z : FVec Ideal S32x3x544x544 .f32) (a : Fin 32) (b : Fin 3) (i j : Fin 513) :
    boxes z (ix4 a b i j)
      = ∑ p : Fin 32, ∑ q : Fin 32, z (ix4 a b ⟨i.val + p.val, by omega⟩ ⟨j.val + q.val, by omega⟩) := by
  unfold boxes Host.reduceWindowAdd
  rw [Ideal.hostReduceWindowAdd_def]
  unfold Ideal.hostReduceWindowAdd Host.reduceWindow
  dsimp only
  rw [foldl_add, show broadcastInDim S_ ![] bcast_S_S_ (constant (F := Ideal) S_ FTy.f32 0#32) (Shape.Idx.first h_S_) = (0 : EReal) from
    Ideal.ofBits_zero_f32, zero_add]
  rw [← Equiv.sum_comp (Shape.rowMajor ⟨4, ![1, 1, 32, 32]⟩)]
  simp only [Equiv.symm_apply_apply]
  rw [sum_idx4, Fin.sum_univ_one, Fin.sum_univ_one]
  refine Finset.sum_congr rfl fun p _ => Finset.sum_congr rfl fun q _ => ?_
  have hi := i.isLt
  have hj := j.isLt
  have hp := p.isLt
  have hq := q.isLt
  rw [dif_pos]
  · congr 1
    funext e
    apply Fin.ext
    fin_cases e
    · simp [ix4]
    · simp [ix4]
    · simp [ix4]
    · simp [ix4]
  · intro e
    fin_cases e
    · simp [ix4]
    · simp [ix4]
    · simp [ix4]; omega
    · simp [ix4]; omega

/-- The reference's means: the box sums of the reflected images, divided by 1024, without the last row and column. -/
def means (x : Images) : FVec Ideal S32x3x512x512 .f32 :=
  extractStridedSlice S32x3x512x512 ![0, 0, 0, 0]
    (Host.divf (boxes (wide (tall x))) (broadcastInDim S32x3x513x513 ![] bcast_S_S32x3x513x513 (constant S_ .f32 0x44800000#32)))
    slices_S32x3x513x513_S32x3x512x512_0_0_0_0

/-- Mean (i, j) of image (a, b) is its box mean there. -/
theorem means_apply (x : Images) (a : Fin 32) (b : Fin 3) (i j : Fin 512) :
    means x (ix4 a b i j) = boxMean (fun u v => x (ix4 a b u v)) i j := by
  unfold means
  pointwise
  rw [boxes_apply, div_1024]
  unfold boxMean
  congr 1
  refine Finset.sum_congr rfl fun p _ => Finset.sum_congr rfl fun q _ => ?_
  rw [wide_apply, tall_apply]
  rfl

/-- The reference's result is these means put together. -/
theorem result_eq (m : (ℓ : Loc nD τ sig) → Buf (Elt Ideal) ℓ) (c : Dev nD) :
    Value.res_out0 m c = (shapeCast S96x512x512 (minimumf (broadcastInDim S32x3x512x512 ![] bcast_S_S32x3x512x512 (constant S_ .f32 0x40C00000#32))
      (maximumf (broadcastInDim S32x3x512x512 ![] bcast_S_S32x3x512x512 (constant S_ .f32 0xC0C00000#32))
        (Host.divf (subf (m ((c.tc : Thread nD τ).loc main_arg0) : Images) (means (m ((c.tc : Thread nD τ).loc main_arg0))))
          (Host.sqrt (maximumf (Host.absf (subf (means (mulf (m ((c.tc : Thread nD τ).loc main_arg0) : Images) (m ((c.tc : Thread nD τ).loc main_arg0) : Images)))
            (mulf (means (m ((c.tc : Thread nD τ).loc main_arg0))) (means (m ((c.tc : Thread nD τ).loc main_arg0))))))
            (broadcastInDim S32x3x512x512 ![] bcast_S_S32x3x512x512 (constant S_ .f32 0x1E3CE508#32))))))) shapeCasts_S32x3x512x512_S96x512x512
      : FVec Ideal S96x512x512 .f32) := by
  unfold Value.res_out0 Value.res_main_v22
  rfl

/-- Picture `n` of the 96, as one of the 32 × 3 images. -/
def picture (x : Images) (n : Fin 96) (u v : Fin 512) : EReal :=
  x (ix4 (⟨n.val / 3, by omega⟩ : Fin 32) (⟨n.val % 3, by omega⟩ : Fin 3) u v)

/-- WHAT THE REFERENCE HOLDS at picture `n`, row `i`, column `j`: the specification there. -/
theorem reference_apply (m : (ℓ : Loc nD τ sig) → Buf (Elt Ideal) ℓ) (c : Dev nD) (n : Fin 96) (i j : Fin 512) :
    (Value.res_out0 m c : FVec Ideal S96x512x512 .f32) (ix3 n i j)
      = pixel (picture (m ((c.tc : Thread nD τ).loc main_arg0)) n) i j := by
  rw [result_eq]
  generalize (m ((c.tc : Thread nD τ).loc main_arg0) : Images) = x
  pointwise
  rw [means_apply, means_apply]
  unfold pixel normed
  rw [mul_rsqrt_eq_div_sqrt]
  exact (min_comm _ _).trans (congrArg (fun y : EReal => min y _) (max_comm _ _))

end Cert.Box

end
-- ==== Proof.Array.lean ====
module

public import proofs.«01_k».proof.Proof.Block
public import proofs.«01_k».proof.Proof.Counts
public import proofs.«01_k».proof.Proof.Reference
public import proofs.«01_k».proof.Proof.Gen.KernelIdeal.Value
public import Idealize.ShloMosaic.Lib.Pipeline.ValueKit
public import Idealize.ShloMosaic.Lib.Claim

/-!
# What the kernel's result array holds
-/

@[expose] public section

set_option maxRecDepth 16384

noncomputable section

namespace Cert.Box

open Idealize.ShloMosaic Idealize.ShloMosaic.TcCoe Cert.KernelIdeal Cert.KernelIdeal.Gen

variable (m : (ℓ : Loc nD τ sig) → Buf (Elt Ideal) ℓ)

/-- The images, as the kernel is handed them. -/
def images (c : Dev nD) : Images := m ((c.tc : Thread nD τ).loc main_arg0)

/-- The block each window takes at point `t`. -/
theorem index0 : ∀ t : Fin cfg0.N, win0_0.index t = ![t.val, 0, 0] := by decide +kernel
theorem index1 : ∀ t : Fin cfg0.N, win0_1.index t = ![0, 0] := by decide +kernel
theorem index2 : ∀ t : Fin cfg0.N, win0_2.index t = ![0, 0, 0] := by decide +kernel
theorem index3 : ∀ t : Fin cfg0.N, win0_3.index t = ![t.val, 0, 0] := by decide +kernel

/-- The row weights at an index. -/
theorem entry1 (c : Dev nD) (y : S512x512.Idx) (u v : Fin 512) (h0 : (y 0).val = u.val) (h1 : (y 1).val = v.val) :
    (V m c main_v35 : Vec Ideal S512x512 .fp8e4m3) y = shares (count u.val v.val) := by
  obtain rfl : y = ix2 u v := funext fun a => by
    fin_cases a
    · exact Fin.ext h0
    · exact Fin.ext h1
  exact (congrFun (rows_eq m c) _).trans (rowTable_apply u v)

/-- The column weights at an index. -/
theorem entry2 (c : Dev nD) (y : S4x128x256.Idx) (b : Fin 4) (r : Fin 128) (q : Fin 256) (h0 : (y 0).val = b.val)
    (h1 : (y 1).val = r.val) (h2 : (y 2).val = q.val) :
    (V m c main_v38 : Vec Ideal S4x128x256 .fp8e4m3) y = shares (count (slab b q).val (row b r).val) := by
  obtain rfl : y = ix3 b r q := funext fun a => by
    fin_cases a
    · exact Fin.ext h0
    · exact Fin.ext h1
    · exact Fin.ext h2
  exact (congrFun (cols_eq m c) _).trans (colTable_apply b r q)

/-- The images with their two leading axes made one, read at an index. -/
theorem picture_cast (x : Images) (k : Fin 96) (u v : Fin 512) :
    (shapeCast S96x512x512 x shapeCasts_S32x3x512x512_S96x512x512 : FVec Ideal S96x512x512 .f32) (ix3 k u v) = picture x k u v := by
  unfold picture
  pointwise

/-- The pictures at an index. -/
theorem entry0 (c : Dev nD) (y : S96x512x512.Idx) (k : Fin 96) (u v : Fin 512) (h0 : (y 0).val = k.val)
    (h1 : (y 1).val = u.val) (h2 : (y 2).val = v.val) :
    (V m c main_v0 : Vec Ideal S96x512x512 .f32) y = picture (images m c) k u v := by
  obtain rfl : y = ix3 k u v := funext fun a => by
    fin_cases a
    · exact Fin.ext h0
    · exact Fin.ext h1
    · exact Fin.ext h2
  exact (congrFun (pictures_eq m c) _).trans (picture_cast (images m c) k u v)

/-- The row weights that a step reads. -/
theorem iblk1_apply (c : Dev nD) (t : Fin cfg0.N) (u v : Fin 512) :
    (iblk m c 1 t : Vec Ideal S512x512 .fp8e4m3) (ix2 u v) = shares (count u.val v.val) := by
  unfold iblk
  blk_simp
  refine entry1 m c _ u v ?_ ?_
  · blk_simp [index1]
  · blk_simp [index1]

/-- The column weights that a step reads. -/
theorem iblk2_apply (c : Dev nD) (t : Fin cfg0.N) (b : Fin 4) (r : Fin 128) (q : Fin 256) :
    (iblk m c 2 t : Vec Ideal S4x128x256 .fp8e4m3) (ix3 b r q) = shares (count (slab b q).val (row b r).val) := by
  unfold iblk
  blk_simp
  refine entry2 m c _ b r q ?_ ?_ ?_ <;> blk_simp [index2]

/-- The pictures that step `t` reads: 12 of them, from picture `12 t` on. -/
theorem iblk0_apply (c : Dev nD) (t : Fin cfg0.N) (n : Fin 12) (u v : Fin 512) (k : Fin 96) (hk : k.val = 12 * t.val + n.val) :
    (iblk m c 0 t : Vec Ideal S12x512x512 .f32) (ix3 n u v) = picture (images m c) k u v := by
  unfold iblk
  blk_simp
  refine entry0 m c _ k u v ?_ ?_ ?_ <;> blk_simp [index0]
  omega

/-- The array, as one function of its index. -/
def result (c : Dev nD) : Vec Ideal S96x512x512 .f32 := fun y => pixel (picture (images m c) (y 0)) (y 1) (y 2)

/-- A picture through both weights is its box mean. -/
theorem twice_eq (c : Dev nD) (t : Fin cfg0.N) (f : Fin 512 → Fin 512 → EReal) (b : Fin 4) (r : Fin 128) (v : Fin 512) :
    twice f (iblk m c 1 t) (iblk m c 2 t) b r v = boxMean f (row b r) v := by
  unfold twice boxMean
  rw [← box_sum]
  refine Finset.sum_congr rfl fun q _ => ?_
  rw [iblk2_apply]
  refine congrArg _ (Finset.sum_congr rfl fun p _ => ?_)
  rw [iblk1_apply]

/-- What a step leaves in its picture `n`, which is picture `k` of the array. -/
theorem stepAt_pixel (c : Dev nD) (t : Fin cfg0.N) (n : Fin 12) (b : Fin 4) (r : Fin 128) (v : Fin 512) (k : Fin 96)
    (hk : k.val = 12 * t.val + n.val) :
    stepAt (iblk m c 0 t) (iblk m c 1 t) (iblk m c 2 t) n b r v = pixel (picture (images m c) k) (row b r) v := by
  unfold stepAt pixel
  rw [twice_eq, twice_eq]
  simp only [iblk0_apply m c t _ _ _ k hk]

/-- What a step leaves at an index, where the index lands in the array. -/
theorem step_pixel (c : Dev nD) (t : Fin cfg0.N) (y : S12x512x512.Idx) (z : S96x512x512.Idx)
    (h0 : (z 0).val = 12 * t.val + (y 0).val) (h1 : (z 1).val = (y 1).val) (h2 : (z 2).val = (y 2).val) :
    stepValue (iblk m c 0 t) (iblk m c 1 t) (iblk m c 2 t) y = result m c z := by
  have hy : (y 1).val < 512 := (y 1).isLt
  have e1 : z 1 = row ⟨(y 1).val / 128, by omega⟩ ⟨(y 1).val % 128, by omega⟩ :=
    Fin.ext (h1.trans (by show (y 1).val = 128 * ((y 1).val / 128) + (y 1).val % 128; omega))
  have e2 : z 2 = y 2 := Fin.ext h2
  refine (stepAt_pixel m c t (y 0) ⟨(y 1).val / 128, by omega⟩ ⟨(y 1).val % 128, by omega⟩ (y 2) (z 0) h0).trans ?_
  unfold result
  rw [e1, e2]

/-- WHAT THE KERNEL'S RESULT ARRAY HOLDS: the specification at every index. -/
theorem array_eq (c : Dev nD) : (dats m 0 c).arrAt 3 cfg0.N = result m c := by
  refine (dats m 0 c).arrAt_eq_of_covers 3 _ (by decide +kernel) fun t hf y => ?_
  blk_simp
  rw [after0_3]
  refine (out_apply _ _ _ y).trans ?_
  refine step_pixel m c t y _ ?_ ?_ ?_
  · blk_simp [index3]
    omega
  · blk_simp [index3]
  · blk_simp [index3]

end Cert.Box

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import Idealize.ShloMosaic.Adequacy
public import Idealize.ShloMosaic.Init

@[expose] public section

noncomputable section

namespace Cert.Proof

open Idealize.ShloMosaic Idealize.SL.Sem

/-- The reference declares no semaphore, and its run leaves its argument alone. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the specification of its images, index by index. -/
theorem reference_eq (m : (ℓ : Loc Cert.ReferenceIdeal.nD Cert.ReferenceIdeal.τ Cert.ReferenceIdeal.sig) → Buf (Elt Ideal) ℓ)
    (c : Dev Cert.ReferenceIdeal.nD) : (Cert.ReferenceIdeal.Value.res_out0 m c : FVec Ideal Cert.ReferenceIdeal.S96x512x512 .f32)
      = fun y => Cert.Box.pixel (Cert.Box.picture (m ((c.tc : Thread Cert.ReferenceIdeal.nD Cert.ReferenceIdeal.τ).loc Cert.ReferenceIdeal.main_arg0)) (y 0)) (y 1) (y 2) := by
  funext y
  refine (congrArg (Cert.ReferenceIdeal.Value.res_out0 m c : FVec Ideal Cert.ReferenceIdeal.S96x512x512 .f32) ?_).trans
    (Cert.Box.reference_apply m c (y 0) (y 1) (y 2))
  funext a
  fin_cases a <;> rfl

/-- Kernel and reference both end with the specification of the images that they share. -/
theorem equation : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.Box.result m c, ?_, ?_⟩
  · exact (θ_run Cert.KernelIdeal.defs _ _).mono (fun r h c => ⟨(h c).1.trans (Cert.Box.array_eq m c), (h c).2⟩)
      (Cert.KernelIdeal.Value.run_blocks (F := Ideal) m ρ)
  · refine (θ_run Cert.ReferenceIdeal.defs _ _).mono (fun r h c => ⟨(h c).1.trans ((reference_eq m' c).trans ?_), (h c).2⟩)
      (Cert.ReferenceIdeal.Value.run (F := Ideal) m' ρ')
    rw [hm c]
    rfl

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equation⟩

end Cert.Proof

end
